-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_swaps_ReferenceIdeal : Cert.Pre_swaps_ReferenceIdeal.Facts] (m : (ℓ : Loc Cert.Reference.nD Cert.Reference.τ Cert.Reference.sig) → Buf (Elt Bits) ℓ) : Prop :=
  ∀ c : Dev Cert.Reference.nD,
    (Cert.Pre_swaps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_keeps_ReferenceIdeal [hPre_keeps_ReferenceIdeal : Cert.Pre_keeps_ReferenceIdeal.Facts] (m : (ℓ : Loc Cert.Reference.nD Cert.Reference.τ Cert.Reference.sig) → Buf (Elt Bits) ℓ) : Prop :=
  ∀ c : Dev Cert.Reference.nD,
    (Cert.Pre_keeps_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_swaps_ReferenceIdeal : Cert.Pre_swaps_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_keeps_ReferenceIdeal [hReference : Cert.Reference.Facts] [hPre_keeps_ReferenceIdeal : Cert.Pre_keeps_ReferenceIdeal.Facts] : Prop :=
  ∀ (m : (ℓ : Loc Cert.Reference.nD Cert.Reference.τ Cert.Reference.sig) → Buf (Elt Bits) ℓ) (g : Dev Cert.Reference.nD → PrngReg), Pre_Reference_keeps_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 256, 256]⟩ ⟨3, ![2, 256, 256]⟩ (Layout.meshBlock [2, 2, 2] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 256, 256]⟩ ⟨3, ![2, 256, 256]⟩ (Layout.meshBlock [2, 2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_keeps_Kernel [hKernel : Cert.Kernel.Facts] [hReference : Cert.Reference.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_keeps_Kernel m →
    (∀ c : Dev Cert.Kernel.nD,
      m ((c.tc : Thread Cert.Kernel.nD Cert.Kernel.τ).loc Cert.Kernel.main_arg0) = Layout.blockN ⟨3, ![1, 256, 256]⟩ ⟨3, ![2, 256, 256]⟩ (Layout.meshBlock [2, 2, 2] ![[0], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 256, 256]⟩ ⟨3, ![2, 256, 256]⟩ (Layout.meshBlock [2, 2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_swaps_Kernel : Cert.Pre_swaps_Kernel.Facts) (hPre_keeps_Kernel : Cert.Pre_keeps_Kernel.Facts) (hPre_swaps_ReferenceIdeal : Cert.Pre_swaps_ReferenceIdeal.Facts) (hPre_keeps_ReferenceIdeal : Cert.Pre_keeps_ReferenceIdeal.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_keeps_ReferenceIdeal (hReferenceIdeal := hReferenceIdeal) (hPre_keeps_ReferenceIdeal := hPre_keeps_ReferenceIdeal)
    ∧ quiescent_Reference (hReference := hReference) (hPre_swaps_ReferenceIdeal := hPre_swaps_ReferenceIdeal)
    ∧ quiescent_Reference_pre_keeps_ReferenceIdeal (hReference := hReference) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
    ∧ bitexact_Kernel_Reference (hKernel := hKernel) (hReference := hReference) (hPre_swaps_Kernel := hPre_swaps_Kernel)
    ∧ bitexact_Kernel_Reference_pre_keeps_Kernel (hKernel := hKernel) (hReference := hReference) (hPre_keeps_Kernel := hPre_keeps_Kernel)
-- ==== Pre_keeps_Kernel.lean ====
abbrev S1x256x256 : Shape := ⟨3, ![1, 256, 256]⟩
abbrev S2 : Shape := ⟨1, ![2]⟩
abbrev S_ : Shape := ⟨0, ![]⟩

class Facts : Prop where
  reducesTo_S2_S_d0 : S2.ReducesTo [0] S_
  h_S_ : 0 < S_.numel

variable [Facts]

def fn {F : FTy → Type} [FloatOps F] (main_arg0 : FVec F S1x256x256 .f32) (main_arg1 : IVec S2 32) : IVec S_ 1 :=
  let main_v0 : IVec S2 32 := iotaInDim S2 32 0
  let main_v1 : IVec S2 1 := cmpi .eq main_arg1 main_v0
  let main_c : IVec S_ 1 := constantI S_ 1 1#1
  let main_v2 : IVec S_ 1 := (fun x v => Host.reduce IntOp.andi x v reducesTo_S2_S_d0 h_S_) main_v1 main_c
  main_v2
-- ==== Pre_keeps_ReferenceIdeal.lean ====
abbrev S2x256x256 : Shape := ⟨3, ![2, 256, 256]⟩
abbrev S2 : Shape := ⟨1, ![2]⟩
abbrev S_ : Shape := ⟨0, ![]⟩

class Facts : Prop where
  reducesTo_S2_S_d0 : S2.ReducesTo [0] S_
  h_S_ : 0 < S_.numel

variable [Facts]

def fn {F : FTy → Type} [FloatOps F] (main_arg0 : FVec F S2x256x256 .f32) (main_arg1 : IVec S2 32) : IVec S_ 1 :=
  let main_v0 : IVec S2 32 := iotaInDim S2 32 0
  let main_v1 : IVec S2 1 := cmpi .eq main_arg1 main_v0
  let main_c : IVec S_ 1 := constantI S_ 1 1#1
  let main_v2 : IVec S_ 1 := (fun x v => Host.reduce IntOp.andi x v reducesTo_S2_S_d0 h_S_) main_v1 main_c
  main_v2
-- ==== Pre_swaps_Kernel.lean ====
abbrev S1x256x256 : Shape := ⟨3, ![1, 256, 256]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S1x256x256 .f32) (main_arg1 : IVec S2 32) : IVec S_ 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  let main_c_0 : IVec S_ 1 := constantI S_ 1 1#1
  let main_v4 : IVec S_ 1 := (fun x v => Host.reduce IntOp.andi x v reducesTo_S2_S_d0 h_S_) main_v3 main_c_0
  main_v4
-- ==== Pre_swaps_ReferenceIdeal.lean ====
abbrev S2x256x256 : Shape := ⟨3, ![2, 256, 256]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x256x256 .f32) (main_arg1 : IVec S2 32) : IVec S_ 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  let main_c_0 : IVec S_ 1 := constantI S_ 1 1#1
  let main_v4 : IVec S_ 1 := (fun x v => Host.reduce IntOp.andi x v reducesTo_S2_S_d0 h_S_) main_v3 main_c_0
  main_v4
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x256x256, .f32⟩
  | .hbm, ⟨1, _⟩ => ⟨S2, .i32⟩
  | .hbm, ⟨2, _⟩ => ⟨S1x256x256, .f32⟩
  | .local _ .smem, ⟨0, _⟩ => ⟨S2, .i32⟩
  | _, _ => ⟨S1x256x256, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.smem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_5 : BitVec 32 := 4#32
  let v11 : BitVec 32 := Scalar.muli v10 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : Index := Scalar.indexCast v2
  ![v17.toNat]
def k0_dev2 (d0 : Dev nD) (v18 : BitVec 32) : Nat :=
  let c0_i32_10 : BitVec 32 := 0#32
  let c4_i32_9 : BitVec 32 := 4#32
  let v19 : BitVec 32 := Scalar.muli v18 c4_i32_9
  let v20 : BitVec 32 := Scalar.addi c0_i32_10 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v21 : BitVec 32 := Scalar.muli v5 c2_i32_11
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v23 : BitVec 32 := Scalar.muli v8 c1_i32_12
  let v24 : BitVec 32 := Scalar.addi v22 v23
  v24.toNat

def k0_chk1 (d0 : Dev nD) (v18 : BitVec 32) : Prop :=
  ((k0_dev2 d0 v18) < nD)
theorem k0_dev2_lt : ∀ (d0 : Dev nD) (v18 : BitVec 32) (k0_hw1 : k0_chk1 d0 v18), (k0_dev2 d0 v18) < nD := fun d0 v18 k0_hw1 => k0_hw1
-- ==== Reference.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Perm.lean ====
/-
  The two permutations of two blocks, as words: what each precondition says of the array it is given, and
  that each permutation is its own `argsort`.
-/
module

public import proofs.«01_k».proof.Pre_swaps_Kernel
public import proofs.«01_k».proof.Pre_keeps_Kernel
public import Idealize.ShloMosaic.Lib.ReduceAll

@[expose] public section

noncomputable section

namespace Cert.Perm

open Idealize.ShloMosaic

variable {F : FTy → Type} [FloatOps F]

abbrev S2 : Shape := ⟨1, ![2]⟩
abbrev S1x256x256 : Shape := ⟨3, ![1, 256, 256]⟩

/-- The word at entry `i` of the permutation: `1 - i` under the swap (`sw = true`), `i` under the identity. -/
def entry (sw : Bool) (i : ℕ) : BitVec 32 := if sw then BitVec.ofNat 32 (1 - i) else BitVec.ofNat 32 i

/-- The permutation as an array. -/
def perm (sw : Bool) : IVec S2 32 := fun i => entry sw (i 0).val

instance : Subsingleton (Shape.Idx ⟨0, ![]⟩) := ⟨fun _ _ => funext fun a => a.elim0⟩

/-- Two arrays whose comparison is one at an entry agree there. -/
theorem eq_of_cmp (p q : IVec S2 32) (i : S2.Idx) (h : cmpi .eq p q i = 1#1) : p i = q i := by
  have hb : ∀ b : Bool, BitVec.ofBool b = 1#1 → b = true := by decide
  exact eq_of_beq (hb _ h)

/-- The precondition `swaps` holds only of the swap, -/
theorem perm_of_swaps [Cert.Pre_swaps_Kernel.Facts] (x : FVec F S1x256x256 .f32) (p : IVec S2 32)
    (h : Cert.Pre_swaps_Kernel.fn x p = fun _ => 1#1) : p = perm true := by
  funext i
  refine (eq_of_cmp p _ i (Host.reduce_andi_all _ _ _ _ (fun a => a.elim0) (congrFun h _) i)).trans ?_
  show 1#32 - BitVec.ofNat 32 (i 0).val = BitVec.ofNat 32 (1 - (i 0).val)
  generalize i 0 = j
  revert j; decide

/-- the precondition `keeps` only of the identity. -/
theorem perm_of_keeps [Cert.Pre_keeps_Kernel.Facts] (x : FVec F S1x256x256 .f32) (p : IVec S2 32)
    (h : Cert.Pre_keeps_Kernel.fn x p = fun _ => 1#1) : p = perm false := by
  funext i
  exact eq_of_cmp p _ i (Host.reduce_andi_all _ _ _ _ (fun a => a.elim0) (congrFun h _) i)

/-- Sorting either permutation stably, with the positions carried along, leaves the permutation in the positions: each is
    its own inverse. -/
theorem argsort_perm (sw : Bool) :
    (Host.sort2 S2 0 (fun l r : BitVec 32 × BitVec 32 => IntOp.cmpi .slt l.1 r.1) (perm sw) (iotaInDim S2 32 0)).2 = perm sw := by
  funext i
  revert i; cases sw <;> decide +kernel

end Cert.Perm

end
-- ==== Proof.KernelValue.lean ====
/-
  The equation: what each device's result holds is its block of the reference's result.

  Device `c` holds block `c / 4` of `x`. Under either permutation the block its destination holds is
  block `pi[c / 4]`, which is block `c / 4` of `x[argsort(pi)]`.
-/
module

public import proofs.«01_k».proof.Proof.KernelLaunch
public import proofs.«01_k».proof.Proof.ReferenceRun
public import Idealize.ShloMosaic.Lib.Layout

@[expose] public section

noncomputable section

namespace Cert.KernelProof

open Cert.Kernel Cert.Kernel.Gen
open Cert.Perm (perm)
open Cert.ReferenceProof (refOut source blockOf refOut_apply)
open Idealize.ShloMosaic
open Idealize.ShloMosaic.TcCoe
open Idealize.SL.Sem

variable {F : FTy → Type} [FloatOps F]

/-- Device `c`'s block of an array of two blocks. -/
abbrev part {α : Type} (c : Dev nD) (x : Cert.Reference.S2x256x256.Idx → α) : S1x256x256.Idx → α :=
  Layout.blockN ⟨3, ![1, 256, 256]⟩ ⟨3, ![2, 256, 256]⟩ (Layout.meshBlock [2, 2, 2] ![[0], [], []] c) x

/-- The number of the block device `c` holds. -/
abbrev held (c : Dev nD) : Nat := Layout.meshLin [2, 2, 2] c.val [0]

/-- The block that device `c`'s destination holds is the one the permutation brings to `c`. -/
theorem held_dest (sw : Bool) (c : Dev nD) (r : Fin 1) (h : held c * 1 + r.val < 2) :
    (blockOf sw ⟨held c * 1 + r.val, h⟩).val = held (dest sw c) * 1 + r.val := by
  revert r; revert c; cases sw <;> decide +kernel

/-- Device `c`'s block of the reference's result is its destination's block of `x`. -/
theorem part_refOut {α : Type} (sw : Bool) (c : Dev nD) (x : Cert.Reference.S2x256x256.Idx → α) :
    part c (refOut x (perm sw)) = part (dest sw c) x := by
  funext i
  unfold part
  rw [Layout.blockN_apply, Layout.blockN_apply, refOut_apply]
  refine congrArg x (funext fun a => Fin.ext ?_)
  match a with
  | ⟨0, _⟩ => exact held_dest sw c (i 0) _
  | ⟨1, _⟩ => rfl
  | ⟨2, _⟩ => rfl

/-- From memories that agree — each device of the kernel holding its block of the reference's `x` and the reference's
    permutation — under either permutation both run: the reference ends with an array of which every device's result is
    its block, and the arguments of both end unchanged. -/
theorem value (sw : Bool) (m : (ℓ : Loc nD τ sig) → Buf (Elt F) ℓ) (g : Dev nD → PrngReg)
    (m' : (ℓ : Loc Cert.Reference.nD Cert.Reference.τ Cert.Reference.sig) → Buf (Elt F) ℓ) (g' : Dev Cert.Reference.nD → PrngReg)
    (h : PermOK sw m)
    (ha : ∀ c : Dev nD, m ((c.tc : Thread nD τ).loc main_arg0) = part c (m' (((0 : Dev Cert.Reference.nD).tc : Thread Cert.Reference.nD Cert.Reference.τ).loc Cert.Reference.main_arg0))
      ∧ m ((c.tc : Thread nD τ).loc main_arg1) = m' (((0 : Dev Cert.Reference.nD).tc : Thread Cert.Reference.nD Cert.Reference.τ).loc Cert.Reference.main_arg1)) :
    ∃ v : Buf (Elt F) (((0 : Dev Cert.Reference.nD).tc : Thread Cert.Reference.nD Cert.Reference.τ).loc Cert.Reference.main_v7),
      θ_run (defs (F := F)) (onTc (τ := τ) (main (F := F))) ⟨m, fun _ => 0, g⟩ (fun r => ∀ c : Dev nD,
          r.2.mem ((c.tc : Thread nD τ).loc main_v1) = part c v
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.Reference.defs (F := F)) (onTc (τ := Cert.Reference.τ) (Cert.Reference.main (F := F))) ⟨m', fun _ => 0, g'⟩ (fun r =>
          r.2.mem (((0 : Dev Cert.Reference.nD).tc : Thread Cert.Reference.nD Cert.Reference.τ).loc Cert.Reference.main_v7) = v
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)) := by
  refine ⟨refOut (m' (((0 : Dev Cert.Reference.nD).tc : Thread Cert.Reference.nD Cert.Reference.τ).loc Cert.Reference.main_arg0)) (perm sw), ?_, ?_⟩
  · refine (θ_run defs _ _).mono (fun r hr c => ⟨(hr.1 c).1.trans ?_, (hr.1 c).2⟩) (run_main sw m g h)
    rw [part_refOut]
    exact (ha (dest sw c)).1
  · refine (θ_run Cert.Reference.defs _ _).mono (fun r hr => ⟨(hr.1 0).1.trans ?_, (hr.1 0).2⟩) (Cert.ReferenceProof.run_main m' g')
    exact congrArg (refOut _) ((ha 0).2.symm.trans (h 0))

/-- Under either permutation the run ends with the arguments unchanged and every counter at zero. -/
theorem quiet (sw : Bool) (m : (ℓ : Loc nD τ sig) → Buf (Elt F) ℓ) (g : Dev nD → PrngReg) (h : PermOK sw m) :
    θ_run (defs (F := F)) (onTc (τ := τ) (main (F := F))) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0) :=
  (θ_run defs _ _).mono (fun _ hr => ⟨fun c => (hr.1 c).2, hr.2⟩) (run_main sw m g h)

end Cert.KernelProof

end
-- ==== Proof.KernelIdealProtocol.lean ====
/-
  How the devices talk, and what each hands over when it does.

  The mesh is 2 × 2 × 2 and device `c` sits at (c / 4, c / 2 % 2, c % 2). `peer c` is the device across
  the first axis. Every device signals the barrier of its peer, waits for one unit on its own, waits for
  the copy of the permutation into its scalar memory, and then sends its block of `x` to the result
  buffer of device `dest sw c`: the peer when the permutation swaps its two entries (`sw = true`), the
  device itself when it keeps them (`sw = false`).

  Each device has four semaphores in play, each with one duty in round 0:
  - the barrier, one unit, paid by the peer; when the permutation swaps it hands over the peer's result
    buffer, into which this device is about to write, and nothing otherwise;
  - the copy of the permutation, paid by the device's own copy; it hands back the permutation and the
    scalar memory that now holds it;
  - the send semaphore, paid by the device's own transfer; it hands back the block that was sent;
  - the receive semaphore, paid by the transfer of device `dest sw c`; it hands over this device's
    result buffer, holding the block of `dest sw c`.
-/
module

public import proofs.«01_k».proof.Proof.Perm
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Cert.Perm (entry perm)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the launch's own copy of the rounds, and the one of the four cells -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (sw : Bool) (m : (ℓ : Loc nD τ sig) → Buf (Elt F) ℓ)

/-! ## The devices -/

set_option backward.proofsInPublic true in
/-- The device across the first mesh axis. -/
def peer (c : Dev nD) : Dev nD := ⟨(c.val + 4) % 8, Nat.mod_lt _ (by decide)⟩

/-- The device `c` sends its block to: the peer under the swap, itself under the identity. -/
def dest (c : Dev nD) : Dev nD := if sw then peer c else c

theorem peer_peer (c : Dev nD) : peer (peer c) = c := by revert c; decide
theorem dest_dest (c : Dev nD) : dest sw (dest sw c) = c := by revert c; cases sw <;> decide

/-- The peer as a permutation of the devices. -/
def across : Dev nD ≃ Dev nD := ⟨peer, peer, peer_peer, peer_peer⟩
/-- The destination as a permutation of the devices. -/
def along : Dev nD ≃ Dev nD := ⟨dest sw, dest sw, dest_dest sw, dest_dest sw⟩

/-- The barrier signal goes to the peer. -/
theorem dev1_eq (c : Dev nD) : (⟨k0_dev1 c, k0_dev1_lt c⟩ : Dev nD) = peer c := by
  apply Fin.ext; revert c; decide +kernel

/-- The word read by device `c` names a device of the mesh, -/
theorem entry_chk (c : Dev nD) : k0_chk1 c (entry sw (c.val / 4)) := by
  revert c; cases sw <;> decide +kernel
/-- and that device is its destination. -/
theorem entry_dev (c : Dev nD) (h : k0_chk1 c (entry sw (c.val / 4))) :
    (⟨k0_dev2 c (entry sw (c.val / 4)), k0_dev2_lt c _ h⟩ : Dev nD) = dest sw c := by
  apply Fin.ext
  show k0_dev2 c (entry sw (c.val / 4)) = (dest sw c).val
  clear h; revert c; cases sw <;> decide +kernel

/-! ## Buffers and semaphores -/

abbrev xM : Memref sig .tc .hbm S1x256x256 .f32 := Memref.whole main_arg0
abbrev pM : Memref sig .tc .hbm S2 .i32 := Memref.whole main_arg1
abbrev oM : Memref sig .tc .hbm S1x256x256 .f32 := Memref.whole main_v1
abbrev tM : Memref sig .tc .smem S2 .i32 := Memref.whole cc0_scratch0

abbrev barS : Sem sig := (SemArray.scalar (sig.barrier 0 rfl) : Sems sig S_).sem
abbrev permS : DmaSem sig := cc0_scratch1.sem
abbrev sendS : DmaSem sig := cc0_scratch2.sem
abbrev recvS : DmaSem sig := cc0_scratch3.sem

abbrev barCell (c : Dev nD) : GSem nD τ sig := ((c : Thread nD τ), .reg barS)
abbrev permCell (c : Dev nD) : GSem nD τ sig := ((c : Thread nD τ), .dma permS)
abbrev sendCell (c : Dev nD) : GSem nD τ sig := ((c : Thread nD τ), .dma sendS)
abbrev recvCell (c : Dev nD) : GSem nD τ sig := ((c : Thread nD τ), .dma recvS)

/-- The kernel's own semaphores: the permutation's, the send's, the receive's. -/
abbrev osem : Fin 3 → SemLoc sig := fun | 0 => .dma permS | 1 => .dma sendS | 2 => .dma recvS
/-- All four: the barrier, then the three. -/
abbrev csem : Fin 4 → SemLoc sig := fun | 0 => .reg barS | 1 => .dma permS | 2 => .dma sendS | 3 => .dma recvS
abbrev kcell (ck : Dev nD × Fin 4) : GSem nD τ sig := ((ck.1 : Thread nD τ), csem ck.2)

/-- The credit of a block of `x`, and of the permutation. -/
abbrev N : ℕ := (oM : Memref sig .tc .hbm S1x256x256 .f32).view.dmaCredit
abbrev NP : ℕ := (tM : Memref sig .tc .smem S2 .i32).view.dmaCredit
theorem N_pos : 0 < N := View.dmaCredit_pos _ (by decide)
theorem NP_pos : 0 < NP := View.dmaCredit_pos _ (by decide)

/-! ## Contents -/

/-- Device `c`'s block of `x` and its copy of the permutation, as the run starts. -/
abbrev X (c : Dev nD) : Buf (Elt F) ((c : Thread nD τ).loc main_arg0) := m ((c : Thread nD τ).loc main_arg0)
abbrev P (c : Dev nD) : Buf (Elt F) ((c : Thread nD τ).loc main_arg1) := m ((c : Thread nD τ).loc main_arg1)

/-- What device `c`'s result buffer holds at the end: the block of the device that sends to it. -/
def landed (c : Dev nD) : Buf (Elt F) ((c : Thread nD τ).loc main_v1) := X m (dest sw c)

def xPts (c : Dev nD) : sProp 𝕄 := (xM.view.loc (c : Thread nD τ)) ↦[xM.view.set]{fullShare} X m c
def pPts (c : Dev nD) : sProp 𝕄 := (pM.view.loc (c : Thread nD τ)) ↦[pM.view.set]{fullShare} P m c
def oPts (c : Dev nD) (f : Buf (Elt F) (oM.view.loc (c : Thread nD τ))) : sProp 𝕄 :=
  (oM.view.loc (c : Thread nD τ)) ↦[oM.view.set]{fullShare} f
def tPts (c : Dev nD) (f : Buf (Elt F) (tM.view.loc (c : Thread nD τ))) : sProp 𝕄 :=
  (tM.view.loc (c : Thread nD τ)) ↦[tM.view.set]{fullShare} f
/-- The result buffer of `c` at some contents. -/
def oAny (c : Dev nD) : sProp 𝕄 := iprop(∃ f, oPts (F := F) c f)

omit [FloatOps F] in
theorem xPts_eq (c : Dev nD) : xPts m c = (((c : Thread nD τ).loc main_arg0) ↦{fullShare} X m c : sProp 𝕄) := by
  unfold xPts; rw [View.set_whole]
omit [FloatOps F] in
theorem pPts_eq (c : Dev nD) : pPts m c = (((c : Thread nD τ).loc main_arg1) ↦{fullShare} P m c : sProp 𝕄) := by
  unfold pPts; rw [View.set_whole]
omit [FloatOps F] in
theorem oPts_eq (c : Dev nD) (f : Buf (Elt F) ((c : Thread nD τ).loc main_v1)) :
    oPts c f = (((c : Thread nD τ).loc main_v1) ↦{fullShare} f : sProp 𝕄) := by unfold oPts; rw [View.set_whole]
omit [FloatOps F] in
theorem tPts_eq (c : Dev nD) (f : Buf (Elt F) ((c : Thread nD τ).loc cc0_scratch0)) :
    tPts c f = (((c : Thread nD τ).loc cc0_scratch0) ↦{fullShare} f : sProp 𝕄) := by unfold tPts; rw [View.set_whole]

omit [FloatOps F] in
instance xPts_storable (c : Dev nD) : BI.Storable (upEmb : UEmb _ 𝕄) (xPts (F := F) m c) := by unfold xPts; infer_instance
omit [FloatOps F] in
instance pPts_storable (c : Dev nD) : BI.Storable (upEmb : UEmb _ 𝕄) (pPts (F := F) m c) := by unfold pPts; infer_instance
omit [FloatOps F] in
instance oPts_storable (c : Dev nD) (f) : BI.Storable (upEmb : UEmb _ 𝕄) (oPts (F := F) c f) := by unfold oPts; infer_instance
omit [FloatOps F] in
instance tPts_storable (c : Dev nD) (f) : BI.Storable (upEmb : UEmb _ 𝕄) (tPts (F := F) c f) := by unfold tPts; infer_instance
omit [FloatOps F] in
instance oAny_storable (c : Dev nD) : BI.Storable (upEmb : UEmb _ 𝕄) (oAny (F := F) c) := by unfold oAny; infer_instance

/-- A whole buffer of blocks written from a whole buffer of blocks holds what the source held; -/
theorem write_o (c : Dev nD) (f : Buf (Elt F) (oM.view.loc (c : Thread nD τ))) (g : (main_arg0 : Ref sig .tc).ty.Contents (Elt F)) :
    oM.view.write (Elt F) f (xM.view.read (Elt F) g) Finset.univ = g := by
  show (View.whole main_v1).write (Elt F) f ((View.whole main_arg0).read (Elt F) g) Finset.univ = g
  rw [View.read_whole]
  exact View.write_whole_univ _ _ _
/-- so does the scalar memory written from the permutation. -/
theorem write_t (c : Dev nD) (f : Buf (Elt F) (tM.view.loc (c : Thread nD τ))) (g : (main_arg1 : Ref sig .tc).ty.Contents (Elt F)) :
    tM.view.write (Elt F) f (pM.view.read (Elt F) g) Finset.univ = g := by
  show (View.whole cc0_scratch0).write (Elt F) f ((View.whole main_arg1).read (Elt F) g) Finset.univ = g
  rw [View.read_whole]
  exact View.write_whole_univ _ _ _

/-! ## The schedule -/

/-- What the peer's signal hands to `c`: the peer's result buffer under the swap, nothing under the identity. -/
def barPay (c : Dev nD) : sProp 𝕄 := if sw then oAny (F := F) (peer c) else iprop(emp)
/-- What `c` keeps of its own result buffer when it signals. -/
def kept (c : Dev nD) : sProp 𝕄 := if sw then iprop(emp) else oAny (F := F) c
def permPay (c : Dev nD) : sProp 𝕄 := iprop(tPts c (P m c) ∗ pPts m c)
def sendPay (c : Dev nD) : sProp 𝕄 := xPts m c
def recvPay (c : Dev nD) : sProp 𝕄 := oPts c (landed sw m c)

/-- Signalling: the result buffer splits into what the signal hands over and what is kept. -/
theorem give (c : Dev nD) : oAny (F := F) c ⊢ iprop(barPay (F := F) sw (peer c) ∗ kept (F := F) sw c) := by
  unfold barPay kept
  cases sw
  · simp only [Bool.false_eq_true, if_false]
    iintro H; isplitr; · iempintro
    iexact H
  · simp only [if_true, peer_peer]
    iintro H; isplitl [H]; · iexact H
    iempintro

/-- Waiting: what was kept and what arrives make the destination's result buffer. -/
theorem take (c : Dev nD) : iprop(barPay (F := F) sw c ∗ kept (F := F) sw c) ⊢ oAny (F := F) (dest sw c) := by
  unfold barPay kept dest
  cases sw
  · simp only [Bool.false_eq_true, if_false]
    iintro ⟨-, H⟩; iexact H
  · simp only [if_true]
    iintro ⟨H, -⟩; iexact H

instance barPay_storable (c : Dev nD) : BI.Storable (upEmb : UEmb _ 𝕄) (barPay (F := F) sw c) := by
  unfold barPay; split <;> infer_instance

/-- One round: every semaphore of every TensorCore has one duty, of one unit at the barrier and of the credit of what
    moves elsewhere. -/
def sched : Rounds.Schedule (GSem nD τ sig) Unit 𝕄 where
  duties g r := if r = 0 ∧ g.1.2 = .tc then {()} else ∅
  unitless _ := False
  amount g _ _ := if g.2 = .reg barS then 1 else if g.2 = .dma permS then NP else N
  payload g _ _ :=
    if g.2 = .reg barS then barPay sw g.1.1
    else if g.2 = .dma permS then permPay m g.1.1
    else if g.2 = .dma recvS then recvPay sw m g.1.1
    else if g.2 = .dma sendS then sendPay m g.1.1
    else iprop(emp)
  amount_pos g _ _ _ := by
    by_cases h : g.2 = .reg barS
    · rw [if_pos h]; exact Nat.one_pos
    · rw [if_neg h]
      by_cases h' : g.2 = .dma permS
      · rw [if_pos h']; exact NP_pos
      · rw [if_neg h']; exact N_pos

instance sched_payload_storable (g : GSem nD τ sig) (r : ℕ) (d : Unit) :
    BI.Storable (upEmb : UEmb _ 𝕄) ((sched (F := F) sw m).payload g r d) := by
  show BI.Storable upEmb (if g.2 = .reg barS then barPay sw g.1.1 else if g.2 = .dma permS then permPay m g.1.1
    else if g.2 = .dma recvS then recvPay sw m g.1.1 else if g.2 = .dma sendS then sendPay m g.1.1 else iprop(emp))
  unfold permPay recvPay sendPay
  (repeat' split) <;> infer_instance

section Sched
variable (c : Dev nD)

theorem perm_ne_bar : (SemLoc.dma permS : SemLoc sig) ≠ .reg barS := fun h => by cases h
theorem send_ne_bar : (SemLoc.dma sendS : SemLoc sig) ≠ .reg barS := fun h => by cases h
theorem recv_ne_bar : (SemLoc.dma recvS : SemLoc sig) ≠ .reg barS := fun h => by cases h
theorem send_ne_perm : (SemLoc.dma sendS : SemLoc sig) ≠ .dma permS := by decide
theorem recv_ne_perm : (SemLoc.dma recvS : SemLoc sig) ≠ .dma permS := by decide
theorem send_ne_recv : (SemLoc.dma sendS : SemLoc sig) ≠ .dma recvS := by decide
theorem perm_ne_recv : (SemLoc.dma permS : SemLoc sig) ≠ .dma recvS := by decide

/-- Every semaphore of device `c` has its one duty in round 0, -/
theorem duties_tc (sm : SemLoc sig) : (sched (F := F) sw m).duties ((c : Thread nD τ), sm) 0 = {()} := by
  dsimp only [sched]; exact if_pos ⟨rfl, rfl⟩
/-- and none later. -/
theorem duties_later (g : GSem nD τ sig) : ∀ r, 1 ≤ r → (sched (F := F) sw m).duties g r = ∅ :=
  fun r hr => by dsimp only [sched]; exact if_neg fun h => by omega

theorem amount_bar (d : Unit) : (sched (F := F) sw m).amount (barCell c) 0 d = 1 := by dsimp only [sched]; exact if_pos rfl
theorem amount_perm (d : Unit) : (sched (F := F) sw m).amount (permCell c) 0 d = NP := by
  dsimp only [sched]; rw [if_neg perm_ne_bar, if_pos rfl]
theorem amount_send (d : Unit) : (sched (F := F) sw m).amount (sendCell c) 0 d = N := by
  dsimp only [sched]; rw [if_neg send_ne_bar, if_neg send_ne_perm]
theorem amount_recv (d : Unit) : (sched (F := F) sw m).amount (recvCell c) 0 d = N := by
  dsimp only [sched]; rw [if_neg recv_ne_bar, if_neg recv_ne_perm]

/-- A round of one duty expects that duty's amount. -/
theorem expect_tc (sm : SemLoc sig) : (sched (F := F) sw m).expect ((c : Thread nD τ), sm) 0 = (sched (F := F) sw m).amount ((c : Thread nD τ), sm) 0 () := by
  unfold Schedule.expect Schedule.amountOf; rw [duties_tc, Finset.sum_singleton]

theorem payload_bar (d : Unit) : (sched (F := F) sw m).payload (barCell c) 0 d = barPay sw c := by dsimp only [sched]; rw [if_pos rfl]
theorem payload_perm (d : Unit) : (sched (F := F) sw m).payload (permCell c) 0 d = permPay m c := by
  dsimp only [sched]; rw [if_neg perm_ne_bar, if_pos rfl]
theorem payload_recv (d : Unit) : (sched (F := F) sw m).payload (recvCell c) 0 d = recvPay sw m c := by
  dsimp only [sched]; rw [if_neg recv_ne_bar, if_neg recv_ne_perm, if_pos rfl]
theorem payload_send (d : Unit) : (sched (F := F) sw m).payload (sendCell c) 0 d = sendPay m c := by
  dsimp only [sched]; rw [if_neg send_ne_bar, if_neg send_ne_perm, if_neg send_ne_recv, if_pos rfl]

/-- The rest of a round from which no duty was taken is its one payload. -/
theorem rest_tc (sm : SemLoc sig) :
    bigSep ((sched (F := F) sw m).duties ((c : Thread nD τ), sm) 0 \ ∅) (fun d => (sched (F := F) sw m).payload ((c : Thread nD τ), sm) 0 d)
      = (sched (F := F) sw m).payload ((c : Thread nD τ), sm) 0 () := by
  rw [Finset.sdiff_empty, duties_tc, bigSep_singleton]

end Sched

/-! ## What each device owes at launch, and the order of the waits -/

/-- A device owes its destination's receive semaphore a block, and its peer's barrier one unit. -/
def O₀ (c : Dev nD) : CellTallies nD τ sig Unit := tallyAt (recvCell (dest sw c)) () N + tallyAt (barCell (peer c)) () 1

def L (g : GSem nD τ sig) : Finset Unit := if g.1.2 = .tc then {()} else ∅
/-- Barriers are waited for before blocks are, and a device's own copies come before both. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl

/-- Owing only a block, a device may wait at any semaphore below the receive ones. -/
theorem mayWait (c : Dev nD) (sm : SemLoc sig) (h : lv ((c : Thread nD τ), sm) () ≤ 1) :
    (levAts L lv : sProp 𝕄) ⊢ MayWait (c : Thread nD τ) sm () (tallyAt (recvCell (dest sw c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (dest sw c) ∧ u = ()
      · rw [h.1, L_tc]; exact Finset.mem_singleton_self _
      · rw [if_neg h] at hg; exact absurd hg (Nat.lt_irrefl 0))
    (fun p hp => by rw [Finset.mem_singleton.mp hp]; exact h)
    (fun g u hg => by
      rw [tallyAt_apply] at hg
      by_cases h : g = recvCell (dest sw c) ∧ u = ()
      · rw [h.1]; dsimp only [lv]; rw [if_neg recv_ne_bar, if_pos rfl]; decide
      · rw [if_neg h] at hg; exact absurd hg (Nat.lt_irrefl 0))

theorem lv_bar (c : Dev nD) : lv (barCell c) () ≤ 1 := by dsimp only [lv]; rw [if_pos rfl]
theorem lv_perm (c : Dev nD) : lv (permCell c) () ≤ 1 := by
  dsimp only [lv]; rw [if_neg perm_ne_bar, if_neg perm_ne_recv]; exact Nat.zero_le _

end Cert.KernelIdealProof

end
-- ==== Proof.KernelIdealBody.lean ====
/-
  The kernel's body on one device, run effect by effect under the schedule.

  It starts with the device's three arrays, its scalar memory, the duties it pays and the credit it waits
  with; it ends with the block of `x` and the permutation as they were, the result buffer holding the
  block of the device that sends to it, and its four counters at zero. The only thing assumed of the
  memory is `PermOK`: every device's permutation is the swap, or every device's is the identity.
-/
module

public import proofs.«01_k».proof.Proof.KernelIdealProtocol
public import proofs.«01_k».proof.Proof.Gen.KernelIdeal.Points

@[expose] public section

noncomputable section

namespace Cert.KernelIdealProof

open Cert.KernelIdeal Cert.KernelIdeal.Gen
open Cert.Perm (entry perm)
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ)

/-! ## The word the body reads -/

/-- Every device's permutation is the swap (`sw = true`) or the identity (`sw = false`). -/
def PermOK : Prop := ∀ c : Dev nD, (P m c : IVec S2 32) = perm sw

/-- Where device `c` reads its scalar memory. -/
abbrev readAt (c : Dev nD) : Rect S2 := Rect.unit (s := S2) (k0_off1 c) S1.size (k0_off1_inb c)

/-- The word it reads there. -/
abbrev word (c : Dev nD) (f : (cc0_scratch0 : Ref sig .tc).ty.Contents (Elt F)) : BitVec 32 :=
  (tM.access (readAt c) : View sig .tc _ _ _).read (Elt F) f (Shape.Idx.first (s := S1) (numel1_S1.symm ▸ Nat.one_pos))

variable {sw m} in
/-- It is the permutation's entry at the device's first coordinate. -/
theorem word_eq (h : PermOK sw m) (c : Dev nD) : word (F := F) c (P m c) = entry sw (c.val / 4) := by
  show (P m c : IVec S2 32) _ = _
  rw [h c]; unfold perm
  refine congrArg _ ?_
  clear h; revert c; decide +kernel

variable {sw m} in
theorem chk_of (h : PermOK sw m) (c : Dev nD) : k0_chk1 c (word (F := F) c (P m c)) := by
  rw [word_eq h]; exact entry_chk sw c

variable {sw m} in
theorem dev2_eq (h : PermOK sw m) (c : Dev nD) (hw : k0_chk1 c (word (F := F) c (P m c))) :
    (⟨k0_dev2 c (word (F := F) c (P m c)), k0_dev2_lt c _ hw⟩ : Dev nD) = dest sw c := by
  apply Fin.ext
  show k0_dev2 c (word (F := F) c (P m c)) = (dest sw c).val
  rw [word_eq h]
  exact congrArg Fin.val (entry_dev sw c (entry_chk sw c))

/-! ## What the body starts from and ends with -/

/-- The invariants device `c` opens: those of its own four cells, its peer's barrier, its destination's receive cell. -/
def invs (K : Dev nD × Fin 4 → ℕ) (c : Dev nD) : sProp 𝕄 :=
  iprop(cellInv ER (sched sw m) (K (c, 0)) (barCell c) ∗ cellInv ER (sched sw m) (K (c, 1)) (permCell c)
    ∗ cellInv ER (sched sw m) (K (c, 2)) (sendCell c) ∗ cellInv ER (sched sw m) (K (c, 3)) (recvCell c)
    ∗ cellInv ER (sched sw m) (K (peer c, 0)) (barCell (peer c))
    ∗ cellInv ER (sched sw m) (K (dest sw c, 3)) (recvCell (dest sw c)))

instance invs_persistent (K : Dev nD × Fin 4 → ℕ) (c : Dev nD) : BI.Persistent (invs sw m K c) := by unfold invs; infer_instance

/-- The duties device `c` pays: its peer's barrier, its own copy and send, its destination's receive. -/
def payToks (c : Dev nD) : sProp 𝕄 :=
  iprop(dutyTok ER (barCell (peer c)) 0 () ∗ dutyTok ER (permCell c) 0 () ∗ dutyTok ER (sendCell c) 0 ()
    ∗ dutyTok ER (recvCell (dest sw c)) 0 ())

/-- Its position at the start of round 0 of its four cells. -/
def positions (c : Dev nD) : sProp 𝕄 :=
  iprop(atPos ER (barCell c) 0 ∅ 0 ∗ atPos ER (permCell c) 0 ∅ 0 ∗ atPos ER (sendCell c) 0 ∅ 0 ∗ atPos ER (recvCell c) 0 ∅ 0)

/-- That the cells it pays have reached round 0. -/
def marks (c : Dev nD) : sProp 𝕄 :=
  iprop(reached ER (barCell (peer c)) 0 ∗ reached ER (permCell c) 0 ∗ reached ER (sendCell c) 0 ∗ reached ER (recvCell (dest sw c)) 0)

instance marks_persistent (c : Dev nD) : BI.Persistent (marks (F := F) sw c) := by unfold marks; infer_instance

def ghost (K : Dev nD × Fin 4 → ℕ) (c : Dev nD) : sProp 𝕄 :=
  iprop(invs sw m K c ∗ marks (F := F) sw c ∗ positions (F := F) c ∗ payToks (F := F) sw c)

/-- The credit device `c` waits with: one unit at its barrier, a block at its receive cell. -/
def credits (c : Dev nD) : sProp 𝕄 := iprop(cred (tallyAt (barCell c) () 1) ∗ cred (tallyAt (recvCell c) () N))

/-- Its arrays as the run starts, -/
def arrays₀ (c : Dev nD) : sProp 𝕄 := iprop(xPts m c ∗ pPts m c ∗ oPts c (m ((c : Thread nD τ).loc main_v1)))
/-- and as it ends. -/
def arrays₁ (c : Dev nD) : sProp 𝕄 := iprop(xPts m c ∗ pPts m c ∗ oPts c (landed sw m c))

def start (c : Dev nD) : sProp 𝕄 :=
  iprop((∃ K, ghost sw m K c) ∗ credits (F := F) c ∗ levAts L lv ∗ arrays₀ m c)

def Φ₀ (c : Dev nD) : sProp 𝕄 := iprop(start sw m c ∗ ∃ f, tPts (F := F) c f)

def zeros (c : Dev nD) : sProp 𝕄 :=
  iprop(semVal (barCell c) 0 ∗ semVal (permCell c) 0 ∗ semVal (sendCell c) 0 ∗ semVal (recvCell c) 0)

def Φ₁ (c : Dev nD) : sProp 𝕄 := iprop(arrays₁ sw m c ∗ zeros (F := F) c ∗ ∃ f, tPts (F := F) c f)

/-- The kernel stages no window: what the launch is told is what holds before and after its one grid point, and what each
    device owes there. -/
def dats (_ : Fin 1) (c : Dev nD) : Dat τ (Elt F) Unit ℕ UU ℕ cfg0 c where
  A w := w.elim0
  after w _ := w.elim0
  Φ t := match t with
    | ⟨0, _⟩ => Φ₀ sw m c
    | ⟨_ + 1, _⟩ => Φ₁ sw m c
  q _ := fullShare
  owed t := match t with
    | ⟨0, _⟩ => O₀ sw c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body -/

section Body

variable (K : Dev nD × Fin 4 → ℕ)

/-- The transfer of device `c`'s block, addressed to its destination. -/
theorem wp_send_block (c n : Dev nD) (hn : n = dest sw c) {hsc : (oM : Memref sig (Dev.tc n : Thread nD τ).2.kind .hbm S1x256x256 .f32).view.ref.isScScratch = false}
    {hsrc : xM.view.WordExact} {hdst : (oM : Memref sig (Dev.tc n : Thread nD τ).2.kind .hbm S1x256x256 .f32).view.WordExact}
    {hsem : DmaTarget.Typed .hbm (.dma recvS) (.remote (Dev.tc n : Thread nD τ) (oM : Memref sig (Dev.tc n : Thread nD τ).2.kind .hbm S1x256x256 .f32) (.dma sendS) hsc)}
    {α : Type} {Q : α → sProp 𝕄} {k : PUnit → Prog (TpuEff nD τ sig (Elt F) Λ₀ .tc) α}
    (fn : Buf (Elt F) ((oM : Memref sig .tc .hbm S1x256x256 .f32).view.loc (dest sw c : Thread nD τ))) (W : Waits sig Unit) :
    iprop(cellInv ER (sched sw m) (K (c, 2)) (sendCell c) ∗ cellInv ER (sched sw m) (K (dest sw c, 3)) (recvCell (dest sw c))
        ∗ xPts m c ∗ oPts (dest sw c) fn
        ∗ owes (c : Thread nD τ) (tallyAt (recvCell (dest sw c)) () N) W
        ∗ dutyTok ER (sendCell c) 0 () ∗ reached ER (sendCell c) 0
        ∗ dutyTok ER (recvCell (dest sw c)) 0 () ∗ reached ER (recvCell (dest sw c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  unfold xPts oPts
  exact Rounds.wp_send_pointsTo 𝒱₀ ER (sched sw m) (c : Thread nD τ) none (κ₁ := K (c, 2)) (κ₂ := K (dest sw c, 3))
    (r₁ := 0) (r₂ := 0) (d₁ := ()) (d₂ := ()) (fd := fn)
    (by rw [duties_tc]; exact Finset.mem_singleton_self _) (by rw [duties_tc]; exact Finset.mem_singleton_self _)
    () () N rfl (amount_send sw m c ()) (amount_recv sw m (dest sw c) ()) 0 (by rw [zero_add]) (W := W)
    (by rw [payload_send]; exact BI.Entails.refl _)
    (by rw [payload_recv]; unfold recvPay oPts; rw [write_o (dest sw c), landed, dest_dest])

/-- The copy of the permutation into the scalar memory. -/
theorem wp_copy_perm (c : Dev nD) {hsrc : pM.view.WordExact} {hdst : tM.view.WordExact}
    {hsem : DmaTarget.Typed (nD := nD) .hbm (.dma permS) (DmaTarget.here (p := .tc) tM : DmaTarget nD τ sig .tc .smem S2 .i32)}
    {α : Type} {Q : α → sProp 𝕄} {k : PUnit → Prog (TpuEff nD τ sig (Elt F) Λ₀ .tc) α}
    (ft : Buf (Elt F) (tM.view.loc (c : Thread nD τ))) :
    iprop(cellInv ER (sched sw m) (K (c, 1)) (permCell c) ∗ pPts m c ∗ tPts c ft
        ∗ dutyTok ER (permCell c) 0 () ∗ reached ER (permCell c) 0)
      ⊢ iprop((cred (tallyAt (permCell c) () NP) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma pM (DmaTarget.here (p := .tc) tM) (.dma permS) hsrc hdst hsem) k) Q) := by
  unfold pPts tPts
  exact Rounds.wp_copy_pointsTo 𝒱₀ ER (sched sw m) (c : Thread nD τ) none (κ := K (c, 1)) (r := 0) (d := ()) (fd := ft)
    (by rw [duties_tc]; exact Finset.mem_singleton_self _) () NP rfl (amount_perm sw m c ())
    (by rw [payload_perm]; unfold permPay pPts tPts; rw [write_t c])

def bodyPre (c : Dev nD) : sProp 𝕄 :=
  iprop((ghost sw m K c ∗ credits (F := F) c ∗ levAts L lv ∗ arrays₀ m c ∗ ∃ f, tPts (F := F) c f)
    ∗ (dats sw m 0 c).owesAt () t₀.castSucc)

def bodyPost (c : Dev nD) : sProp 𝕄 := iprop(Φ₁ sw m c ∗ (dats sw m 0 c).owesAt () t₀.succ)

set_option maxHeartbeats 4000000 in
/-- The body from `bodyPre` to `bodyPost`, one rule per effect in program order. -/
theorem sound_body (h : PermOK sw m) (c : Dev nD) (Kt : PUnit → sProp 𝕄) :
    iprop(bodyPre sw m K c ∗ (bodyPost sw m c -∗ Kt ⟨⟩))
      ⊢ wp frame (wpE (defs₀ (F := F)) 𝒱₀ c none) Set.univ (bodyAt0 t₀) Kt := by
  unfold bodyAt0
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold bodyPre ghost invs marks positions payToks credits arrays₀
  iintro ⟨⟨⟨⟨⟨#HIbar, #HIperm, #HIsend, #HIrecv, #HIbarP, #HIrecvD⟩, ⟨#HrB, #HrP, #HrS, #HrV⟩, ⟨HaB, HaP, HaS, HaV⟩, HtB, HtP, HtS, HtV⟩,
    ⟨HcB, HcV⟩, #Hlev, ⟨Hx, Hp, Ho⟩, ⟨%ft, Ht⟩⟩, HO⟩, Hk⟩
  unfold Dat.owesAt Pipeline.owesWithin
  icases HO with ⟨%W, %hW, HO⟩
  rw [show (dats sw m 0 c).owed t₀.castSucc = O₀ sw c from rfl]
  simp only [dev1_eq c]
  -- the copy of the permutation starts
  iapply (wp_copy_perm sw m K c ft) $$ [Hp Ht HtP]
  · isplitr; · iexact HIperm
    isplitl [Hp]; · iexact Hp
    isplitl [Ht]; · iexact Ht
    isplitl [HtP]; · iexact HtP
    iexact HrP
  iintro HcP
  -- the signal to the peer's barrier, with the result buffer under the swap
  ihave Hgive := (give (F := F) sw c) $$ [Ho]
  · unfold oAny; iexists _; iexact Ho
  icases Hgive with ⟨Hbp, Hkept⟩
  unfold O₀
  iapply (Rounds.wp_signal 𝒱₀ ER (sched sw m) (c : Thread nD τ) none (dst := (peer c : Thread nD τ)) (κ := K (peer c, 0))
      (d := ()) (by rw [duties_tc]; exact Finset.mem_singleton_self _) ((amount_bar sw m (peer c) ()).trans (by decide)) ()
      (tallyAt (recvCell (dest sw c)) () N) rfl) $$ [HO HtB Hbp]
  · isplitr; · iexact HIbarP
    isplitl [HO]; · iexact HO
    isplitl [HtB]; · iexact HtB
    isplitl [Hbp]; · rw [payload_bar]; iexact Hbp
    iexact HrB
  iintro HO
  -- the wait on its own barrier: the destination's result buffer is in hand
  iapply (Rounds.wp_wait_rest_token 𝒱₀ ER (sched sw m) (c : Thread nD τ) none (κ := K (c, 0))
      (wpE_semWait_eq 𝒱₀ (c : Thread nD τ) none Set.univ) (Set.mem_univ _) () (O := tallyAt (recvCell (dest sw c)) () N) (W := W) (R := 0) (m := 0) (T := ∅)
      (by rw [expect_tc, amount_bar]; decide)) $$ [HcB HO HaB]
  · isplitr; · iexact HIbar
    isplitl [HcB]; · iexact HcB
    isplitl [HO]; · iexact HO
    isplitr; · iapply (mayWait sw c (.reg barS) (lv_bar c)); iexact Hlev
    iexact HaB
  iintro ⟨HO, HaB, -, Hpay⟩
  ihave Hbp := (Entails.of_eq ((rest_tc sw m c (.reg barS)).trans (payload_bar sw m c ()))) $$ Hpay
  ihave Hon := (take (F := F) sw c) $$ [Hbp Hkept]
  · isplitl [Hbp] <;> iassumption
  unfold oAny
  icases Hon with ⟨%fn, Hon⟩
  -- the wait for the permutation: the scalar memory holds it
  iapply (Rounds.wp_wait_rest_token 𝒱₀ ER (sched sw m) (c : Thread nD τ) none (κ := K (c, 1))
      (wpE_waitDma2_eq 𝒱₀ (c : Thread nD τ) none Set.univ) (Set.mem_univ _) () (O := tallyAt (recvCell (dest sw c)) () N)
      (W := insert (SemLoc.reg barS, ()) W) (R := 0) (m := 0) (T := ∅)
      (by rw [Nat.zero_add, expect_tc, amount_perm])) $$ [HcP HO HaP]
  · isplitr; · iexact HIperm
    isplitl [HcP]; · iexact HcP
    isplitl [HO]; · iexact HO
    isplitr; · iapply (mayWait sw c (.dma permS) (lv_perm c)); iexact Hlev
    iexact HaP
  iintro ⟨HO, HaP, -, Hpay⟩
  ihave Hpp := (Entails.of_eq ((rest_tc sw m c (.dma permS)).trans (payload_perm sw m c ()))) $$ Hpay
  unfold permPay
  icases Hpp with ⟨Ht, Hp⟩
  -- the word read, which names a device of the mesh
  unfold tPts
  iapply (wp_load_rect 𝒱₀ (c : Thread nD τ) none Set.univ (m := tM) (r := readAt c) (by rw [View.set_whole]; exact Finset.subset_univ _)) $$ Ht; iintro Ht
  simp only [wp_assume_of _ _ _ _ (d := k0_chk1.dec _ _) (chk_of h c)]
  -- the transfer to the destination
  iapply (wp_send_block sw m K c _ (dev2_eq h c (chk_of h c)) fn (insert (SemLoc.dma permS, ()) (insert (SemLoc.reg barS, ()) W))) $$ [Hx Hon HO HtS HtV]
  · isplitr; · iexact HIsend
    isplitr; · iexact HIrecvD
    isplitl [Hx]; · iexact Hx
    isplitl [Hon]; · iexact Hon
    isplitl [HO]; · iexact HO
    isplitl [HtS]; · iexact HtS
    isplitr; · iexact HrS
    isplitl [HtV]; · iexact HtV
    iexact HrV
  iintro ⟨HcS, HO⟩
  -- the wait on its send semaphore: its block is back
  iapply (Rounds.wp_wait_rest_token 𝒱₀ ER (sched sw m) (c : Thread nD τ) none (κ := K (c, 2))
      (wpE_waitDma2_eq 𝒱₀ (c : Thread nD τ) none Set.univ) (Set.mem_univ _) () (O := 0)
      (W := insert (SemLoc.dma permS, ()) (insert (SemLoc.reg barS, ()) W)) (R := 0) (m := 0) (T := ∅)
      (by rw [Nat.zero_add, expect_tc, amount_send])) $$ [HcS HO HaS]
  · isplitr; · iexact HIsend
    isplitl [HcS]; · iexact HcS
    isplitl [HO]; · iexact HO
    isplitr; · rw [MayWait_zero]; iempintro
    iexact HaS
  iintro ⟨HO, HaS, -, Hpay⟩
  ihave Hx := (Entails.of_eq ((rest_tc sw m c (.dma sendS)).trans (payload_send sw m c ()))) $$ Hpay
  -- the wait on its receive semaphore: its result buffer holds the block sent to it
  iapply (Rounds.wp_wait_rest_token 𝒱₀ ER (sched sw m) (c : Thread nD τ) none (κ := K (c, 3))
      (wpE_waitDma2_eq 𝒱₀ (c : Thread nD τ) none Set.univ) (Set.mem_univ _) () (O := 0)
      (W := insert (SemLoc.dma sendS, ()) (insert (SemLoc.dma permS, ()) (insert (SemLoc.reg barS, ()) W))) (R := 0) (m := 0) (T := ∅)
      (by rw [Nat.zero_add, expect_tc, amount_recv])) $$ [HcV HO HaV]
  · isplitr; · iexact HIrecv
    isplitl [HcV]; · iexact HcV
    isplitl [HO]; · iexact HO
    isplitr; · rw [MayWait_zero]; iempintro
    iexact HaV
  iintro ⟨HO, HaV, -, Hpay⟩
  ihave Ho := (Entails.of_eq ((rest_tc sw m c (.dma recvS)).trans (payload_recv sw m c ()))) $$ Hpay
  unfold sendPay recvPay
  -- the four cells close, their counters at zero
  imod (Rounds.cell_close ER (sched sw m) (Set.mem_univ (K (c, 0))) (fun h => h) (R := 0 + 1) (duties_later sw m (barCell c))) $$ [HaB] with HzB
  · isplitr; · iexact HIbar
    iexact HaB
  imod (Rounds.cell_close ER (sched sw m) (Set.mem_univ (K (c, 1))) (fun h => h) (R := 0 + 1) (duties_later sw m (permCell c))) $$ [HaP] with HzP
  · isplitr; · iexact HIperm
    iexact HaP
  imod (Rounds.cell_close ER (sched sw m) (Set.mem_univ (K (c, 2))) (fun h => h) (R := 0 + 1) (duties_later sw m (sendCell c))) $$ [HaS] with HzS
  · isplitr; · iexact HIsend
    iexact HaS
  imod (Rounds.cell_close ER (sched sw m) (Set.mem_univ (K (c, 3))) (fun h => h) (R := 0 + 1) (duties_later sw m (recvCell c))) $$ [HaV] with HzV
  · isplitr; · iexact HIrecv
    iexact HaV
  rw [wp_ret]; imodintro
  iapply Hk
  unfold bodyPost Φ₁ arrays₁ zeros Dat.owesAt Pipeline.owesWithin
  rw [show (dats sw m 0 c).owed t₀.succ = 0 from rfl]
  isplitr [HO]
  · isplitl [Hx Hp Ho]
    · isplitl [Hx]; · iexact Hx
      isplitl [Hp] <;> iassumption
    isplitl [HzB HzP HzS HzV]
    · isplitl [HzB]; · iexact HzB
      isplitl [HzP]; · iexact HzP
      isplitl [HzS] <;> iassumption
    iexists _; unfold tPts; iexact Ht
  iexists (insert (SemLoc.dma recvS, ()) (insert (SemLoc.dma sendS, ()) (insert (SemLoc.dma permS, ()) (insert (SemLoc.reg barS, ()) W))))
  isplitr; · ipureintro; exact fun _ _ => Or.inl trivial
  iexact HO

/-- A separating product over no window is empty. -/
theorem bigSep_W (Ψ : Fin cfg0.W → sProp 𝕄) : bigSep Finset.univ Ψ = iprop(emp) :=
  bigSep_empty

/-- What the launch asks of the body on device `c`. -/
theorem body_obligation (h : PermOK sw m) (c : Dev nD) : BodyObligation (dats (F := F) sw m 0 c) (defs₀ (F := F)) 𝒱₀ () Set.univ := fun t => by
  rw [fin_N t, bigSep_W, bigSep_W]
  show iprop(Φ₀ sw m c ∗ (dats sw m 0 c).owesAt () t₀.castSucc ∗ emp)
    ⊢ wp frame (wpE (defs₀ (F := F)) 𝒱₀ c none) Set.univ (bodyAt0 t₀)
        (fun _ => iprop(Φ₁ sw m c ∗ (dats sw m 0 c).owesAt () t₀.succ ∗ emp))
  unfold Φ₀ start
  iintro ⟨⟨⟨⟨%K, Hg⟩, Hc, Hl, Ha⟩, Ht⟩, Ho, -⟩
  iapply (sound_body sw m K h c)
  unfold bodyPre bodyPost
  isplitr []
  · isplitl [Hg Hc Hl Ha Ht]
    · isplitl [Hg]; · iexact Hg
      isplitl [Hc]; · iexact Hc
      isplitl [Hl]; · iexact Hl
      isplitl [Ha] <;> iassumption
    iexact Ho
  · iintro ⟨H1, H2⟩
    isplitl [H1]; · iexact H1
    isplitl [H2]; · iexact H2
    iempintro

end Body

end Cert.KernelIdealProof

end
-- ==== Proof.KernelIdealLaunch.lean ====
/-
  The launch: the four cells of every device allocated before any device starts, the duties dealt to the
  devices that pay them, and the run of `main` on the eight devices.

  `run_main`: when every device's permutation is the swap, or every device's is the identity, the run
  terminates from any memory with zero counters; in every final state each device's result is the block
  of its destination, the block of `x` and the permutation are what they were, and every counter is zero.
-/
module

public import proofs.«01_k».proof.Proof.KernelIdealBody
public import Idealize.ShloMosaic.Lib.Pipeline.Quiescent

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (sw : Bool) (m : (ℓ : Loc nD τ sig) → Buf (Elt F) ℓ) (ρ : Dev nD → PrngReg)

theorem ownSemFacts : Pipeline.OwnSemFacts cfg0.spec osem := by decide

/-! ## The cells and the duties -/

theorem csem_injective : Function.Injective csem := by decide

theorem kcell_injective : Function.Injective (kcell : Dev nD × Fin 4 → GSem nD τ sig) := fun ⟨c, k⟩ ⟨c', k'⟩ h =>
  Prod.ext (congrArg (fun g : GSem nD τ sig => g.1.1) h) (csem_injective (congrArg (fun g : GSem nD τ sig => g.2) h))

/-- Every device's four cells, -/
def allCells : Finset (GSem nD τ sig) := Finset.univ.map ⟨kcell, kcell_injective⟩

abbrev dutyOf (ck : Dev nD × Fin 4) : GSem nD τ sig × ℕ × Unit := (kcell ck, 0, ())
theorem dutyOf_injective : Function.Injective dutyOf := fun _ _ h => kcell_injective (congrArg Prod.fst h)

/-- and the one duty of each. -/
def allDuties : Finset (GSem nD τ sig × ℕ × Unit) := Finset.univ.map ⟨dutyOf, dutyOf_injective⟩

def u₀ : UU :=
  (initOf (Pipeline.cells cfgs cellOf_inj) (Pipeline.launchToks cfgs cellOf_inj), initOf allCells allDuties)

/-- The duties of device `c`'s own cells, as they are made. -/
def ownToks (c : Dev nD) : sProp 𝕄 := bigSep Finset.univ fun k : Fin 4 => dutyTok ER (kcell (c, k)) 0 ()

/-- A device's four positions and marks. -/
def ownMarks (c : Dev nD) : sProp 𝕄 :=
  bigSep Finset.univ fun k : Fin 4 => iprop(atPos ER (kcell (c, k)) 0 ∅ 0 ∗ reached ER (kcell (c, k)) 0)

/-- What the initial ghost state deals device `c`; -/
def G (c : Dev nD) : sProp 𝕄 :=
  iprop((bigSep Finset.univ fun k : Fin 4 => roundState ER (sched sw m) (kcell (c, k)) 0) ∗ ownMarks (F := F) c ∗ ownToks (F := F) c)

/-- what it has once the cells are allocated and the duties dealt. -/
def G' (c : Dev nD) : sProp 𝕄 := iprop(∃ K, ghost sw m K c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_cells : BI.own (ER (initOf allCells allDuties)) ⊢ (|==> bigSep Finset.univ (G sw m) : sProp 𝕄) := by
  have hX (Φ : GSem nD τ sig → sProp 𝕄) : bigSep allCells Φ = bigSep Finset.univ fun c : Dev nD => bigSep Finset.univ fun k : Fin 4 => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => ownToks (F := F) c := by
    unfold allDuties; rw [bigSep_map, bigSep_univ_prod]; rfl
  iintro HX
  imod (Rounds.fund ER (sched sw m) allCells allDuties) $$ HX with ⟨Hst, Hr, Hat, Htok⟩
  imodintro
  ihave Hst' := (Entails.of_eq (hX fun g => roundState ER (sched sw m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ownMarks; simp only [bigSep_sep']
  isplitl [Hst']; · iexact Hst'
  isplitl [Hat' Hr']
  · isplitl [Hat'] <;> iassumption
  iexact Htok'

/-- The permutation's, the send's and the receive's semaphores are the kernel's own; -/
theorem ownSems0_eq (c : Dev nD) : (Pipeline.ownSems0 (Ix := Unit) (Name := ℕ) (U := UU) (Lvl := ℕ) (Val := Elt F) (τ := τ) osem c : sProp 𝕄)
    = iprop(semVal (permCell c) 0 ∗ semVal (sendCell c) 0 ∗ semVal (recvCell c) 0) := by
  rw [Pipeline.ownSems0_eq_of_list c osem [0, 1, 2] (by decide) (by decide)]; rfl
/-- the barrier's is the only other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's counters and round states become the invariants of its four cells. -/
theorem core_alloc (c : Dev nD) :
    iprop(Pipeline.ownSems0 (Ix := Unit) (Name := ℕ) (U := UU) (Lvl := ℕ) (Val := Elt F) (τ := τ) osem c ∗ unscopedSems0 c ∗ G sw m c)
      ⊢ |={Set.univ}=> iprop((bigSep Finset.univ fun k => iprop(∃ κ : ℕ, cellInv ER (sched sw m) κ (kcell (c, k))))
          ∗ ownMarks (F := F) c ∗ ownToks (F := F) c) := by
  have hv : iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
    rw [ownSems0_eq, unscopedSems0_eq, bigSep_fin4]
    iintro ⟨HO, HB⟩
    isplitl [HB] <;> iassumption
  have hi : iprop((bigSep Finset.univ fun k : Fin 4 => semVal (kcell (c, k)) 0) ∗ bigSep Finset.univ fun k : Fin 4 => roundState ER (sched sw m) (kcell (c, k)) 0)
      ⊢ (|={Set.univ}=> bigSep Finset.univ fun k => iprop(∃ κ : ℕ, cellInv ER (sched sw m) κ (kcell (c, k))) : sProp 𝕄) := by
    rw [← bigSep_sep']
    exact (bigSep_mono fun k _ => (Rounds.body_intro ER (sched sw m) (kcell (c, k))).trans inv_alloc).trans (bigSep_fupd _ _)
  unfold G
  iintro ⟨Hos, Hus, Hst, Hrest⟩
  ihave Hv := hv $$ [Hos Hus]
  · isplitl [Hos] <;> iassumption
  imod hi $$ [Hv Hst] with Hinv
  · isplitl [Hv] <;> iassumption
  imodintro
  isplitl [Hinv]; · iexact Hinv
  iexact Hrest

/-- What every device may know of every cell: its invariant and that it has reached round 0. -/
def records (K : Dev nD × Fin 4 → ℕ) : sProp 𝕄 :=
  iprop((bigSep Finset.univ fun ck : Dev nD × Fin 4 => cellInv ER (sched sw m) (K ck) (kcell ck))
    ∗ bigSep Finset.univ fun ck : Dev nD × Fin 4 => reached ER (kcell ck) 0)

instance records_persistent (K : Dev nD × Fin 4 → ℕ) : BI.Persistent (records sw m K) := by unfold records; infer_instance

theorem inv_at (K : Dev nD × Fin 4 → ℕ) (ck : Dev nD × Fin 4) : records sw m K ⊢ cellInv ER (sched sw m) (K ck) (kcell ck) :=
  sep_elim_left.trans (bigSep_elim (Finset.mem_univ ck))
theorem reached_at (K : Dev nD × Fin 4 → ℕ) (ck : Dev nD × Fin 4) : records sw m K ⊢ reached ER (kcell ck) 0 :=
  sep_elim_right.trans (bigSep_elim (Finset.mem_univ ck))

/-- From the records, a device's positions and the duties it pays, all the body's ghost state. -/
theorem ghost_intro (K : Dev nD × Fin 4 → ℕ) (c : Dev nD) :
    iprop(records sw m K ∗ (positions (F := F) c ∗ payToks (F := F) sw c)) ⊢ G' sw m c := by
  unfold G' ghost invs marks
  iintro ⟨#HR, Hpos, Htok⟩
  iexists K
  isplitr
  · isplitr; · iapply (inv_at sw m K (c, 0)); iexact HR
    isplitr; · iapply (inv_at sw m K (c, 1)); iexact HR
    isplitr; · iapply (inv_at sw m K (c, 2)); iexact HR
    isplitr; · iapply (inv_at sw m K (c, 3)); iexact HR
    isplitr; · iapply (inv_at sw m K (peer c, 0)); iexact HR
    iapply (inv_at sw m K (dest sw c, 3)); iexact HR
  isplitr
  · isplitr; · iapply (reached_at sw m K (peer c, 0)); iexact HR
    isplitr; · iapply (reached_at sw m K (c, 1)); iexact HR
    isplitr; · iapply (reached_at sw m K (c, 2)); iexact HR
    iapply (reached_at sw m K (dest sw c, 3)); iexact HR
  isplitl [Hpos] <;> iassumption

/-- The duties dealt: a barrier's to the peer, a receive's to the device that sends there, the others kept. -/
theorem toks_dealt : (bigSep Finset.univ fun c : Dev nD => (ownToks (F := F) c : sProp 𝕄)) ⊢ bigSep Finset.univ fun c : Dev nD => payToks (F := F) sw c := by
  unfold ownToks payToks
  simp only [bigSep_fin4]
  rw [bigSep_sep', bigSep_sep', bigSep_sep', bigSep_sep', bigSep_sep', bigSep_sep',
    bigSep_univ_equiv across (fun c : Dev nD => (dutyTok ER (kcell (c, 0)) 0 () : sProp 𝕄)),
    bigSep_univ_equiv (along sw) (fun c : Dev nD => (dutyTok ER (kcell (c, 3)) 0 () : sProp 𝕄))]
  exact .rfl

/-- A persistent fact used at every index of a separating product. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched sw m) κ (kcell (c, k))))
          ∗ ownMarks (F := F) c ∗ ownToks (F := F) c) : sProp 𝕄)
      ⊢ bigSep Finset.univ (G' sw m) := by
  have hp : (bigSep Finset.univ fun c : Dev nD => bigSep Finset.univ fun k : Fin 4 => (atPos ER (kcell (c, k)) 0 ∅ 0 : sProp 𝕄))
      ⊢ bigSep Finset.univ fun c : Dev nD => positions (F := F) c :=
    Entails.of_eq (bigSep_congr fun c _ => by unfold positions; rw [bigSep_fin4])
  unfold ownMarks
  rw [bigSep_sep', bigSep_sep', ← bigSep_univ_prod (fun ck : Dev nD × Fin 4 => iprop(∃ κ : ℕ, cellInv ER (sched sw m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched sw m) κ (kcell ck) : sProp 𝕄))) $$ HI
  icases HK with ⟨%K, #HI⟩
  ihave Htk := (toks_dealt (F := F) sw) $$ Htok
  iapply (bigSep_using (R := records sw m K) fun c _ => ghost_intro sw m K c)
  isplitr
  · unfold records; isplitl; · iexact HI
    iexact HR
  rw [bigSep_sep']
  isplitl [Hat]
  · iapply hp; iexact Hat
  iexact Htk

/-- All devices at once: every counter goes into its cell's invariant, every duty to the device that pays it. -/
theorem glob : (bigSep Finset.univ fun c => iprop(Pipeline.ownSems0 (Ix := Unit) (Name := ℕ) (U := UU) (Lvl := ℕ) (Val := Elt F) (τ := τ) osem c ∗ unscopedSems0 c ∗ G sw m c) : sProp 𝕄)
    ⊢ |={Set.univ}=> bigSep Finset.univ (G' sw m) :=
  ((bigSep_mono fun c _ => core_alloc sw m c).trans (bigSep_fupd _ _)).trans (BI.fupd_mono (regroup sw m))

/-! ## The credit at launch -/

theorem bar_eq_iff {a b : Dev nD} : Iff (barCell a = barCell b) (a = b) :=
  ⟨fun h => congrArg (fun g : GSem nD τ sig => g.1.1) h, fun h => h ▸ rfl⟩
theorem recv_eq_iff {a b : Dev nD} : Iff (recvCell a = recvCell b) (a = b) :=
  ⟨fun h => congrArg (fun g : GSem nD τ sig => g.1.1) h, fun h => h ▸ rfl⟩

/-- Only the peer owes a device's barrier, one unit; -/
theorem owed_bar (d c : Dev nD) : O₀ sw d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg fun ⟨h1, _⟩ => h (by rw [← peer_peer d]; exact congrArg peer (bar_eq_iff.mp h1).symm), if_neg h]

/-- only the device that sends to it owes its receive semaphore, a block. -/
theorem owed_recv (d c : Dev nD) : O₀ sw d (recvCell c) () = if d = dest sw c then N else 0 := by
  unfold O₀
  rw [Pi.add_apply, Finsupp.add_apply, tallyAt_apply, tallyAt_ne_cell (fun h => recv_ne_bar (congrArg Prod.snd h)), Finsupp.zero_apply, Nat.add_zero]
  by_cases h : d = dest sw c
  · subst h; rw [dest_dest, if_pos ⟨rfl, rfl⟩, if_pos rfl]
  · rw [if_neg fun ⟨h1, _⟩ => h (by rw [← dest_dest sw d]; exact congrArg (dest sw) (recv_eq_iff.mp h1).symm), if_neg h]

theorem launch_bar (c : Dev nD) :
    tallyOn (barCell c) (launchCredit (Pipeline.owing (O₀ sw)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar sw d c,
    Finset.sum_ite_eq' Finset.univ (peer c) fun _ => 1, if_pos (Finset.mem_univ _)]

theorem launch_recv (c : Dev nD) :
    tallyOn (recvCell c) (launchCredit (Pipeline.owing (O₀ sw)) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv sw d c,
    Finset.sum_ite_eq' Finset.univ (dest sw c) fun _ => N, if_pos (Finset.mem_univ _)]

theorem creds (c : Dev nD) : (Pipeline.launchCred (O₀ sw) c : sProp 𝕄) ⊢ credits (F := F) c := by
  unfold Pipeline.launchCred credits
  rw [bigSep_univ_at _ (SemLoc.reg barS), launch_bar]
  refine sep_mono_right ?_
  rw [← launch_recv sw]
  exact bigSep_elim (Finset.mem_erase.mpr ⟨recv_ne_bar, Finset.mem_univ _⟩)

/-! ## What goes in and what comes out -/

theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' sw m c)
      ⊢ |={Set.univ}=> iprop(start sw m c ∗ emp) := by
  rw [Pipeline.unscopedRestP_none, unscopedRest0_eq]
  unfold start arrays₀ G'
  rw [xPts_eq, pPts_eq, oPts_eq]
  iintro ⟨Harr, Hlev, Hcr, -, HG⟩
  ihave Hc := (creds (F := F) sw c) $$ Hcr
  imodintro
  isplitl
  · isplitl [HG]; · iexact HG
    isplitl [Hc]; · iexact Hc
    isplitl [Hlev]; · iexact Hlev
    iexact Harr
  · iempintro

theorem phi0_intro (c : Dev nD) :
    iprop(start sw m c ∗ Pipeline.prefHeld Pipeline.Prefetch.none c (fun _ => fullShare.right) (fun k => k.elim0) ∗ Pipeline.scopedRest cfg0.spec c)
      ⊢ (dats sw m 0 c).Φ 0 := by
  rw [show (dats sw m 0 c).Φ 0 = Φ₀ sw m c from rfl, scopedRest0_eq]
  unfold Φ₀
  iintro ⟨Hs, -, ⟨%f, Ht⟩⟩
  isplitl [Hs]; · iexact Hs
  iexists f; rw [tPts_eq]; iexact Ht

theorem phi1_exit (c : Dev nD) :
    (dats sw m 0 c).Φ (Fin.last cfg0.N)
      ⊢ iprop((unscopedSems0 c ∗ arrays₁ sw m c) ∗ Pipeline.ownSems0 osem c ∗ Pipeline.scopedRest cfg0.spec c) := by
  rw [show (dats sw m 0 c).Φ (Fin.last cfg0.N) = Φ₁ sw m c from rfl, scopedRest0_eq, ownSems0_eq, unscopedSems0_eq]
  unfold Φ₁ zeros
  iintro ⟨Harr, ⟨HzB, Hz⟩, ⟨%f, Ht⟩⟩
  isplitl [HzB Harr]
  · isplitl [HzB] <;> iassumption
  isplitl [Hz]; · iexact Hz
  iexists f; rw [← tPts_eq]; iexact Ht

/-- What is read of a device at the end: its three arrays and its unscoped counters. -/
def Final (c : Dev nD) (s : MemSt nD τ sig (Elt F)) : Prop :=
  (s.mem ((c : Thread nD τ).loc main_v1) = landed sw m c ∧ s.mem ((c : Thread nD τ).loc main_arg0) = m ((c : Thread nD τ).loc main_arg0)
      ∧ s.mem ((c : Thread nD τ).loc main_arg1) = m ((c : Thread nD τ).loc main_arg1))
    ∧ ∀ sm : SemLoc sig, sm.isScoped .tc = false → s.sem ((c : Thread nD τ), sm) = 0

theorem final_read (c : Dev nD) (s' : Phys nD τ sig (Elt F)) :
    iprop((unscopedSems0 c ∗ arrays₁ sw m c) ∗ emp ∗ SI s') ⊢ |={Set.univ}=> iprop(⌜Final sw m c s'.mem⌝ ∗ SI s' : sProp 𝕄) := by
  unfold arrays₁
  rw [xPts_eq, pPts_eq, oPts_eq]
  iintro ⟨⟨Hu, Hx, Hp, Ho⟩, -, HSI⟩
  ihave %hu := (tcUnscoped_read c s') $$ [Hu HSI]
  · isplitl [Hu] <;> iassumption
  icombine HSI Hx gives %hx
  icombine HSI Hp gives %hp
  icombine HSI Ho gives %ho
  imodintro
  isplitr
  · ipureintro
    exact ⟨⟨Buf.eq_of_forall_mem_univ ho, Buf.eq_of_forall_mem_univ hx, Buf.eq_of_forall_mem_univ hp⟩, hu⟩
  iexact HSI

/-! ## The run -/

set_option maxRecDepth 8000 in
/-- From any memory with zero counters in which every device's permutation is the swap (or every device's the identity),
    every weakly fair execution of `main` on the eight devices terminates, and every final state has each device's result
    at the block of its destination, the two arguments unchanged and every counter at zero. -/
theorem run_main (h : PermOK sw m) :
    θ_run defs (onTc (τ := τ) (main (F := F))) ⟨m, fun _ => 0, ρ⟩ (fun r =>
      (∀ c : Dev nD, r.2.mem ((c : Thread nD τ).loc main_v1) = landed sw m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats sw m) () cellOf_inj (0 : Fin 1)
    winFacts0.to₀ ownSemFacts (Pipeline.PreFacts.none _) EP defs₀ 𝒱₀ m ρ main
    (hmain := fun _ => rfl)
    (hbody := fun c => (body_obligation sw m h c).loose) (hne := block_pos0) (harr := arr_whole0) (hstage := stage_whole0) (hshare := fun _ w => w.elim0)
    (hdistinct := winFacts0.arr_inj)
    (O₀ := O₀ sw) (howed₀ := fun _ => rfl) (howedN := fun _ => rfl)
    (L := L) (lv := lv) (hL := L_of_ne)
    (hwaits := fun c => Pipeline.cellsWaits_intro cfgs (dats sw m) () 0 c fun w _ _ => w.elim0)
    (G := G sw m) (G' := G' sw m) (u₀ := u₀)
    (hu₀ := by
      unfold u₀
      iintro Hu
      ihave H := (ownU_pair _ _) $$ Hu
      icases H with ⟨HP, HX⟩
      imod (fund_cells sw m) $$ HX with HG
      imodintro
      isplitl [HP] <;> iassumption)
    (hglob := glob sw m)
    (hA := fun _ w => w.elim0) (hpf := fun _ k => k.elim0)
    (X := start sw m) (Y := fun c => iprop(unscopedSems0 c ∗ arrays₁ sw m c)) (Z := fun _ => iprop(emp))
    (hX := start_intro sw m ρ) (hin := phi0_intro sw m) (hout := phi1_exit sw m)
    (QY := Final sw m) (hY := final_read sw m)
    (hQ := fun _ hf hs => ⟨fun c => (hf c).2.2.1, sem_eq_zero hs fun c => (hf c).2.2.2⟩)

end Cert.KernelIdealProof

end
-- ==== Proof.ReferenceIdealRun.lean ====
/-
  The reference's run: `x[argsort(pi)]` over the whole array, on one device.

  `run_main`: from any memory with zero counters it terminates with `refOut` of the arguments in its
  result, the arguments unchanged and every counter zero. `refOut_apply`: when the permutation is one of
  the two, block `i` of the result is block `pi[i]` of `x`.
-/
module

public import proofs.«01_k».proof.Proof.Perm
public import proofs.«01_k».proof.Proof.Gen.ReferenceIdeal
public import Idealize.ShloMosaic.Lib.StableHlo.Run
public import Idealize.ShloMosaic.Lib.Quiescent

@[expose] public section

noncomputable section

namespace Cert.ReferenceIdealProof

open Cert.ReferenceIdeal Cert.ReferenceIdeal.Gen
open Cert.Perm (entry perm)
open Idealize.ShloMosaic Idealize.ShloMosaic.TcCoe Idealize.ShloMosaic.StableHlo Idealize.SL.Sem

variable {F : FTy → Type} [FloatOps F]

/-- The positions in sorted order. -/
def order (p : IVec S2 32) : IVec S2 32 := (Host.sort2 S2 0 comparator_i32_i32_d0 p (iotaInDim S2 32 0)).2

/-- The positions, a negative one counted from the end. -/
def index (p : IVec S2 32) : IVec S2 32 :=
  select (cmpi .slt (order p) (broadcastInDim S2 ![] bcast_S_S2 (constantI S_ 32 0#32)))
    (addi (order p) (broadcastInDim S2 ![] bcast_S_S2 (constantI S_ 32 2#32))) (order p)

/-- The reference's result from its arguments: the blocks of `x` at those positions. -/
def refOut {α : Type} (x : S2x256x256.Idx → α) (p : IVec S2 32) : S2x256x256.Idx → α :=
  Host.gather gather_S2x256x256_S2x1_S2x256x256_12_0_n_n_0_1_1256256 x (broadcastInDim S2x1 ![0] bcast_S2_S2x1_0 (index p))

/-! ## The run -/

/-- The operations of `main`, in order. -/
abbrev ops : List (HloOp τ sig (Elt F)) :=
  [ TRef.nullary main_call0.v0 (iotaInDim S2 32 0),
    TRef.binary (.of main_arg1) main_call0.v0 main_call0.v1_0 (fun x y => (Host.sort2 S2 0 comparator_i32_i32_d0 x y).1),
    TRef.binary (.of main_arg1) main_call0.v0 main_call0.v1_1 (fun x y => (Host.sort2 S2 0 comparator_i32_i32_d0 x y).2),
    nullary main_c (constantI S_ 32 0#32),
    unary main_c main_v1 (broadcastInDim S2 ![] bcast_S_S2),
    binary main_v0 main_v1 main_v2 (cmpi .slt),
    nullary main_c_0 (constantI S_ 32 2#32),
    unary main_c_0 main_v3 (broadcastInDim S2 ![] bcast_S_S2),
    binary main_v0 main_v3 main_v4 addi,
    ternary main_v2 main_v4 main_v0 main_v5 select,
    unary main_v5 main_v6 (broadcastInDim S2x1 ![0] bcast_S2_S2x1_0),
    binary main_arg0 main_v6 main_v7 (fun x i => Host.gather gather_S2x256x256_S2x1_S2x256x256_12_0_n_n_0_1_1256256 x i) ]

theorem main_eq (c : Dev nD) : main (F := F) c = seq ops := rfl

/-- The result buffer after the operations; -/
theorem out_eq (V : Valuation τ sig (Elt F)) :
    after ops V (main_v7 : DevRef τ sig) = refOut (V (main_arg0 : DevRef τ sig)) (V (main_arg1 : DevRef τ sig)) := by
  after_results
  rfl

/-- no operation writes an argument. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- From any memory with zero counters, every weakly fair execution of `main` terminates, and every final state has
    `refOut` of the arguments in the result, the arguments unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
            = refOut (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono (fun r h =>
      ⟨fun c => ⟨(h c main_v7).trans (out_eq _), (h c main_arg0).trans (arg0_eq _), (h c main_arg1).trans (arg1_eq _)⟩,
        sem_eq_zero_of_no_sems rfl r.2⟩)
    (run_seq scopedRefs_eq scopedSems_eq defs main (fun _ => ops) main_eq (fun _ => ops_sub) m ρ)

/-- The same, without the result. -/
theorem quiet (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono (fun _ hr => ⟨fun c => (hr.1 c).2, hr.2⟩) (run_main m ρ)

/-! ## The result under either permutation -/

/-- Either permutation is its own sorted order, and no position is negative. -/
theorem index_perm (sw : Bool) : index (perm sw) = perm sw := by
  have ho : order (perm sw) = perm sw := Cert.Perm.argsort_perm sw
  unfold index
  rw [ho]
  funext i
  revert i; cases sw <;> decide +kernel

/-- The block that block `r` of the result is: `1 - r` under the swap, `r` under the identity. -/
def blockOf (sw : Bool) (r : Fin 2) : Fin 2 := if sw then ⟨1 - r.val, by omega⟩ else r

/-- The word at `r`, read as a position and kept inside the array, is that block. -/
theorem word_blockOf (sw : Bool) (r : Fin 2) : min (entry sw r.val).toInt.toNat 1 + 0 + 0 = (blockOf sw r).val := by
  revert r; cases sw <;> decide +kernel

/-- The place in `x` of the element at `i` of the result: block `pi[i]`, at the same place in the block. -/
def source (sw : Bool) (i : S2x256x256.Idx) : S2x256x256.Idx := fun a => match a with
  | ⟨0, _⟩ => blockOf sw (i 0)
  | ⟨1, _⟩ => i 1
  | ⟨2, _⟩ => i 2

/-- Block `i` of the reference's result is block `pi[i]` of `x`. -/
theorem refOut_apply {α : Type} (sw : Bool) (x : S2x256x256.Idx → α) (i : S2x256x256.Idx) : refOut x (perm sw) i = x (source sw i) := by
  unfold refOut
  rw [index_perm]
  unfold Host.gather
  refine congrArg x (funext fun a => Fin.ext ?_)
  match a with
  | ⟨0, _⟩ => exact word_blockOf sw (i 0)
  | ⟨1, _⟩ => exact Nat.zero_add _
  | ⟨2, _⟩ => exact Nat.zero_add _

end Cert.ReferenceIdealProof

end
-- ==== Proof.KernelIdealValue.lean ====
/-
  The equation: what each device's result holds is its block of the reference's result.

  Device `c` holds block `c / 4` of `x`. Under either permutation the block its destination holds is
  block `pi[c / 4]`, which is block `c / 4` of `x[argsort(pi)]`.
-/
module

public import proofs.«01_k».proof.Proof.KernelIdealLaunch
public import proofs.«01_k».proof.Proof.ReferenceIdealRun
public import Idealize.ShloMosaic.Lib.Layout

@[expose] public section

noncomputable section

namespace Cert.KernelIdealProof

open Cert.KernelIdeal Cert.KernelIdeal.Gen
open Cert.Perm (perm)
open Cert.ReferenceIdealProof (refOut source blockOf refOut_apply)
open Idealize.ShloMosaic
open Idealize.ShloMosaic.TcCoe
open Idealize.SL.Sem

variable {F : FTy → Type} [FloatOps F]

/-- Device `c`'s block of an array of two blocks. -/
abbrev part {α : Type} (c : Dev nD) (x : Cert.ReferenceIdeal.S2x256x256.Idx → α) : S1x256x256.Idx → α :=
  Layout.blockN ⟨3, ![1, 256, 256]⟩ ⟨3, ![2, 256, 256]⟩ (Layout.meshBlock [2, 2, 2] ![[0], [], []] c) x

/-- The number of the block device `c` holds. -/
abbrev held (c : Dev nD) : Nat := Layout.meshLin [2, 2, 2] c.val [0]

/-- The block that device `c`'s destination holds is the one the permutation brings to `c`. -/
theorem held_dest (sw : Bool) (c : Dev nD) (r : Fin 1) (h : held c * 1 + r.val < 2) :
    (blockOf sw ⟨held c * 1 + r.val, h⟩).val = held (dest sw c) * 1 + r.val := by
  revert r; revert c; cases sw <;> decide +kernel

/-- Device `c`'s block of the reference's result is its destination's block of `x`. -/
theorem part_refOut {α : Type} (sw : Bool) (c : Dev nD) (x : Cert.ReferenceIdeal.S2x256x256.Idx → α) :
    part c (refOut x (perm sw)) = part (dest sw c) x := by
  funext i
  unfold part
  rw [Layout.blockN_apply, Layout.blockN_apply, refOut_apply]
  refine congrArg x (funext fun a => Fin.ext ?_)
  match a with
  | ⟨0, _⟩ => exact held_dest sw c (i 0) _
  | ⟨1, _⟩ => rfl
  | ⟨2, _⟩ => rfl

/-- From memories that agree — each device of the kernel holding its block of the reference's `x` and the reference's
    permutation — under either permutation both run: the reference ends with an array of which every device's result is
    its block, and the arguments of both end unchanged. -/
theorem value (sw : Bool) (m : (ℓ : Loc nD τ sig) → Buf (Elt F) ℓ) (g : Dev nD → PrngReg)
    (m' : (ℓ : Loc Cert.ReferenceIdeal.nD Cert.ReferenceIdeal.τ Cert.ReferenceIdeal.sig) → Buf (Elt F) ℓ) (g' : Dev Cert.ReferenceIdeal.nD → PrngReg)
    (h : PermOK sw m)
    (ha : ∀ c : Dev nD, m ((c.tc : Thread nD τ).loc main_arg0) = part c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ v : Buf (Elt F) (((0 : Dev Cert.ReferenceIdeal.nD).tc : Thread Cert.ReferenceIdeal.nD Cert.ReferenceIdeal.τ).loc Cert.ReferenceIdeal.main_v7),
      θ_run (defs (F := F)) (onTc (τ := τ) (main (F := F))) ⟨m, fun _ => 0, g⟩ (fun r => ∀ c : Dev nD,
          r.2.mem ((c.tc : Thread nD τ).loc main_v1) = part c v
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v7) = v
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨refOut (m' (((0 : Dev Cert.ReferenceIdeal.nD).tc : Thread Cert.ReferenceIdeal.nD Cert.ReferenceIdeal.τ).loc Cert.ReferenceIdeal.main_arg0)) (perm sw), ?_, ?_⟩
  · refine (θ_run defs _ _).mono (fun r hr c => ⟨(hr.1 c).1.trans ?_, (hr.1 c).2⟩) (run_main sw m g h)
    rw [part_refOut]
    exact (ha (dest sw c)).1
  · refine (θ_run Cert.ReferenceIdeal.defs _ _).mono (fun r hr => ⟨(hr.1 0).1.trans ?_, (hr.1 0).2⟩) (Cert.ReferenceIdealProof.run_main m' g')
    exact congrArg (refOut _) ((ha 0).2.symm.trans (h 0))

/-- Under either permutation the run ends with the arguments unchanged and every counter at zero. -/
theorem quiet (sw : Bool) (m : (ℓ : Loc nD τ sig) → Buf (Elt F) ℓ) (g : Dev nD → PrngReg) (h : PermOK sw m) :
    θ_run (defs (F := F)) (onTc (τ := τ) (main (F := F))) ⟨m, fun _ => 0, g⟩ (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0) :=
  (θ_run defs _ _).mono (fun _ hr => ⟨fun c => (hr.1 c).2, hr.2⟩) (run_main sw m g h)

end Cert.KernelIdealProof

end
-- ==== Proof.lean ====
/-
  The proof of the certificate's claims, assembled: each precondition says the permutation is the swap or
  the identity on every device; the runs and the equation are in the modules imported here.
-/
module

public import proofs.«01_k».proof.Defs
public import proofs.«01_k».proof.Proof.KernelValue
public import proofs.«01_k».proof.Proof.KernelIdealValue
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_swaps_Kernel
public import proofs.«01_k».proof.Proof.Gen.Pre_keeps_Kernel
public import proofs.«01_k».proof.Proof.Gen.Pre_swaps_ReferenceIdeal
public import proofs.«01_k».proof.Proof.Gen.Pre_keeps_ReferenceIdeal

@[expose] public section

namespace Cert.Proof

open Idealize.ShloMosaic Idealize.SL.Sem

/-! ## What the preconditions say of the kernel's memory -/

theorem swap_of_pre {m} (h : Cert.Pre_Kernel m) : Cert.KernelProof.PermOK true m := fun c => Cert.Perm.perm_of_swaps _ _ (h c)
theorem keep_of_pre {m} (h : Cert.Pre_Kernel_keeps_Kernel m) : Cert.KernelProof.PermOK false m := fun c => Cert.Perm.perm_of_keeps _ _ (h c)
theorem swap_of_pre_ideal {m} (h : Cert.Pre_KernelIdeal m) : Cert.KernelIdealProof.PermOK true m := fun c => Cert.Perm.perm_of_swaps _ _ (h c)
theorem keep_of_pre_ideal {m} (h : Cert.Pre_KernelIdeal_keeps_Kernel m) : Cert.KernelIdealProof.PermOK false m := fun c => Cert.Perm.perm_of_keeps _ _ (h c)

/-- The certificate's claims hold. -/
theorem claim : Cert.Claim :=
  ⟨Kernel.Gen.facts, KernelIdeal.Gen.facts, ReferenceIdeal.Gen.facts, Reference.Gen.facts,
    Pre_swaps_Kernel.Gen.facts, Pre_keeps_Kernel.Gen.facts, Pre_swaps_ReferenceIdeal.Gen.facts, Pre_keeps_ReferenceIdeal.Gen.facts,
    fun m g h => Cert.KernelProof.quiet true m g (swap_of_pre h),
    fun m g h => Cert.KernelProof.quiet false m g (keep_of_pre h),
    fun m g h => Cert.KernelIdealProof.quiet true m g (swap_of_pre_ideal h),
    fun m g h => Cert.KernelIdealProof.quiet false m g (keep_of_pre_ideal h),
    fun m g _ => Cert.ReferenceIdealProof.quiet m g,
    fun m g _ => Cert.ReferenceIdealProof.quiet m g,
    fun m g _ => Cert.ReferenceIdealProof.quiet m g,
    fun m g _ => Cert.ReferenceProof.quiet m g,
    fun m g _ => Cert.ReferenceProof.quiet m g,
    trivial,
    fun m g m' g' h ha => Cert.KernelIdealProof.value true m g m' g' (swap_of_pre_ideal h) ha,
    fun m g m' g' h ha => Cert.KernelIdealProof.value false m g m' g' (keep_of_pre_ideal h) ha,
    fun m g m' g' h ha => Cert.KernelProof.value true m g m' g' (swap_of_pre h) ha,
    fun m g m' g' h ha => Cert.KernelProof.value false m g m' g' (keep_of_pre h) ha⟩

end Cert.Proof
